-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Tile (m : (ℓ : Loc Cert.Tile.nD Cert.Tile.τ Cert.Tile.sig) → Buf (Elt Bits) ℓ) : Prop :=
  True

def Pre_TileIdeal (m : (ℓ : Loc Cert.TileIdeal.nD Cert.TileIdeal.τ Cert.TileIdeal.sig) → Buf (Elt Ideal) ℓ) : Prop :=
  True

def Pre_TileReferenceIdeal (m : (ℓ : Loc Cert.TileReferenceIdeal.nD Cert.TileReferenceIdeal.τ Cert.TileReferenceIdeal.sig) → Buf (Elt Ideal) ℓ) : Prop :=
  True

def Pre_TileReference (m : (ℓ : Loc Cert.TileReference.nD Cert.TileReference.τ Cert.TileReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Tile [hTile : Cert.Tile.Facts] : Prop :=
  ∀ (m : (ℓ : Loc Cert.Tile.nD Cert.Tile.τ Cert.Tile.sig) → Buf (Elt Bits) ℓ) (g : Dev Cert.Tile.nD → PrngReg), Pre_Tile m →
    θ_run (Cert.Tile.defs (F := Bits)) (onTc (τ := Cert.Tile.τ) (Cert.Tile.main (F := Bits))) ⟨m, fun _ => 0, g⟩ (fun r => (∀ c : Dev Cert.Tile.nD,
      r.2.mem ((c.tc : Thread Cert.Tile.nD Cert.Tile.τ).loc Cert.Tile.main_arg0) = m ((c.tc : Thread Cert.Tile.nD Cert.Tile.τ).loc Cert.Tile.main_arg0))
      ∧ r.2.sem = fun _ => 0)

def quiescent_TileIdeal [hTileIdeal : Cert.TileIdeal.Facts] : Prop :=
  ∀ (m : (ℓ : Loc Cert.TileIdeal.nD Cert.TileIdeal.τ Cert.TileIdeal.sig) → Buf (Elt Ideal) ℓ) (g : Dev Cert.TileIdeal.nD → PrngReg), Pre_TileIdeal m →
    θ_run (Cert.TileIdeal.defs (F := Ideal)) (onTc (τ := Cert.TileIdeal.τ) (Cert.TileIdeal.main (F := Ideal))) ⟨m, fun _ => 0, g⟩ (fun r => (∀ c : Dev Cert.TileIdeal.nD,
      r.2.mem ((c.tc : Thread Cert.TileIdeal.nD Cert.TileIdeal.τ).loc Cert.TileIdeal.main_arg0) = m ((c.tc : Thread Cert.TileIdeal.nD Cert.TileIdeal.τ).loc Cert.TileIdeal.main_arg0))
      ∧ r.2.sem = fun _ => 0)

def quiescent_TileReferenceIdeal [hTileReferenceIdeal : Cert.TileReferenceIdeal.Facts] : Prop :=
  ∀ (m : (ℓ : Loc Cert.TileReferenceIdeal.nD Cert.TileReferenceIdeal.τ Cert.TileReferenceIdeal.sig) → Buf (Elt Ideal) ℓ) (g : Dev Cert.TileReferenceIdeal.nD → PrngReg), Pre_TileReferenceIdeal m →
    θ_run (Cert.TileReferenceIdeal.defs (F := Ideal)) (onTc (τ := Cert.TileReferenceIdeal.τ) (Cert.TileReferenceIdeal.main (F := Ideal))) ⟨m, fun _ => 0, g⟩ (fun r => (∀ c : Dev Cert.TileReferenceIdeal.nD,
      r.2.mem ((c.tc : Thread Cert.TileReferenceIdeal.nD Cert.TileReferenceIdeal.τ).loc Cert.TileReferenceIdeal.main_arg0) = m ((c.tc : Thread Cert.TileReferenceIdeal.nD Cert.TileReferenceIdeal.τ).loc Cert.TileReferenceIdeal.main_arg0))
      ∧ r.2.sem = fun _ => 0)

def quiescent_TileReference [hTileReference : Cert.TileReference.Facts] : Prop :=
  ∀ (m : (ℓ : Loc Cert.TileReference.nD Cert.TileReference.τ Cert.TileReference.sig) → Buf (Elt Bits) ℓ) (g : Dev Cert.TileReference.nD → PrngReg), Pre_TileReference m →
    θ_run (Cert.TileReference.defs (F := Bits)) (onTc (τ := Cert.TileReference.τ) (Cert.TileReference.main (F := Bits))) ⟨m, fun _ => 0, g⟩ (fun r => (∀ c : Dev Cert.TileReference.nD,
      r.2.mem ((c.tc : Thread Cert.TileReference.nD Cert.TileReference.τ).loc Cert.TileReference.main_arg0) = m ((c.tc : Thread Cert.TileReference.nD Cert.TileReference.τ).loc Cert.TileReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v4)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def preserves_Tile_TileIdeal : Prop :=
  True

def algebraic_TileIdeal_TileReferenceIdeal [hTileIdeal : Cert.TileIdeal.Facts] [hTileReferenceIdeal : Cert.TileReferenceIdeal.Facts] : Prop :=
  ∀ (m : (ℓ : Loc Cert.TileIdeal.nD Cert.TileIdeal.τ Cert.TileIdeal.sig) → Buf (Elt Ideal) ℓ) (g : Dev Cert.TileIdeal.nD → PrngReg)
    (m' : (ℓ : Loc Cert.TileReferenceIdeal.nD Cert.TileReferenceIdeal.τ Cert.TileReferenceIdeal.sig) → Buf (Elt Ideal) ℓ) (g' : Dev Cert.TileReferenceIdeal.nD → PrngReg), Pre_TileIdeal m →
    (∀ c : Dev Cert.TileIdeal.nD,
      m' ((c.tc : Thread Cert.TileReferenceIdeal.nD Cert.TileReferenceIdeal.τ).loc Cert.TileReferenceIdeal.main_arg0) = m ((c.tc : Thread Cert.TileIdeal.nD Cert.TileIdeal.τ).loc Cert.TileIdeal.main_arg0)) →
    ∃ (v0 : (c : Dev Cert.TileIdeal.nD) → Buf (Elt Ideal) ((c.tc : Thread Cert.TileIdeal.nD Cert.TileIdeal.τ).loc Cert.TileIdeal.main_v2)),
      θ_run (Cert.TileIdeal.defs (F := Ideal)) (onTc (τ := Cert.TileIdeal.τ) (Cert.TileIdeal.main (F := Ideal))) ⟨m, fun _ => 0, g⟩ (fun r => ∀ c : Dev Cert.TileIdeal.nD,
          r.2.mem ((c.tc : Thread Cert.TileIdeal.nD Cert.TileIdeal.τ).loc Cert.TileIdeal.main_v2) = v0 c
          ∧ r.2.mem ((c.tc : Thread Cert.TileIdeal.nD Cert.TileIdeal.τ).loc Cert.TileIdeal.main_arg0) = m ((c.tc : Thread Cert.TileIdeal.nD Cert.TileIdeal.τ).loc Cert.TileIdeal.main_arg0))
      ∧ θ_run (Cert.TileReferenceIdeal.defs (F := Ideal)) (onTc (τ := Cert.TileReferenceIdeal.τ) (Cert.TileReferenceIdeal.main (F := Ideal))) ⟨m', fun _ => 0, g'⟩ (fun r => ∀ c : Dev Cert.TileReferenceIdeal.nD,
          r.2.mem ((c.tc : Thread Cert.TileReferenceIdeal.nD Cert.TileReferenceIdeal.τ).loc Cert.TileReferenceIdeal.main_v1) = v0 c
          ∧ r.2.mem ((c.tc : Thread Cert.TileReferenceIdeal.nD Cert.TileReferenceIdeal.τ).loc Cert.TileReferenceIdeal.main_arg0) = m' ((c.tc : Thread Cert.TileReferenceIdeal.nD Cert.TileReferenceIdeal.τ).loc Cert.TileReferenceIdeal.main_arg0))

def bitexact_Tile_TileReference [hTile : Cert.Tile.Facts] [hTileReference : Cert.TileReference.Facts] : Prop :=
  ∀ (m : (ℓ : Loc Cert.Tile.nD Cert.Tile.τ Cert.Tile.sig) → Buf (Elt Bits) ℓ) (g : Dev Cert.Tile.nD → PrngReg)
    (m' : (ℓ : Loc Cert.TileReference.nD Cert.TileReference.τ Cert.TileReference.sig) → Buf (Elt Bits) ℓ) (g' : Dev Cert.TileReference.nD → PrngReg), Pre_Tile m →
    (∀ c : Dev Cert.Tile.nD,
      m' ((c.tc : Thread Cert.TileReference.nD Cert.TileReference.τ).loc Cert.TileReference.main_arg0) = m ((c.tc : Thread Cert.Tile.nD Cert.Tile.τ).loc Cert.Tile.main_arg0)) →
    ∃ (v0 : (c : Dev Cert.Tile.nD) → Buf (Elt Bits) ((c.tc : Thread Cert.Tile.nD Cert.Tile.τ).loc Cert.Tile.main_v2)),
      θ_run (Cert.Tile.defs (F := Bits)) (onTc (τ := Cert.Tile.τ) (Cert.Tile.main (F := Bits))) ⟨m, fun _ => 0, g⟩ (fun r => ∀ c : Dev Cert.Tile.nD,
          r.2.mem ((c.tc : Thread Cert.Tile.nD Cert.Tile.τ).loc Cert.Tile.main_v2) = v0 c
          ∧ r.2.mem ((c.tc : Thread Cert.Tile.nD Cert.Tile.τ).loc Cert.Tile.main_arg0) = m ((c.tc : Thread Cert.Tile.nD Cert.Tile.τ).loc Cert.Tile.main_arg0))
      ∧ θ_run (Cert.TileReference.defs (F := Bits)) (onTc (τ := Cert.TileReference.τ) (Cert.TileReference.main (F := Bits))) ⟨m', fun _ => 0, g'⟩ (fun r => ∀ c : Dev Cert.TileReference.nD,
          r.2.mem ((c.tc : Thread Cert.TileReference.nD Cert.TileReference.τ).loc Cert.TileReference.main_v1) = v0 c
          ∧ r.2.mem ((c.tc : Thread Cert.TileReference.nD Cert.TileReference.τ).loc Cert.TileReference.main_arg0) = m' ((c.tc : Thread Cert.TileReference.nD Cert.TileReference.τ).loc Cert.TileReference.main_arg0))

def Claim : Prop :=
  ∃ (hKernel : Cert.Kernel.Facts) (hKernelIdeal : Cert.KernelIdeal.Facts) (hReferenceIdeal : Cert.ReferenceIdeal.Facts) (hReference : Cert.Reference.Facts) (hTile : Cert.Tile.Facts) (hTileIdeal : Cert.TileIdeal.Facts) (hTileReferenceIdeal : Cert.TileReferenceIdeal.Facts) (hTileReference : Cert.TileReference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Tile (hTile := hTile)
    ∧ quiescent_TileIdeal (hTileIdeal := hTileIdeal)
    ∧ quiescent_TileReferenceIdeal (hTileReferenceIdeal := hTileReferenceIdeal)
    ∧ quiescent_TileReference (hTileReference := hTileReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Tile_TileIdeal
    ∧ algebraic_TileIdeal_TileReferenceIdeal (hTileIdeal := hTileIdeal) (hTileReferenceIdeal := hTileReferenceIdeal)
    ∧ bitexact_Tile_TileReference (hTile := hTile) (hTileReference := hTileReference)
-- ==== Kernel.lean ====
abbrev S4x4096x1024 : Shape := ⟨3, ![4, 4096, 1024]⟩
abbrev S1x8x128 : Shape := ⟨3, ![1, 8, 128]⟩
abbrev S8x128 : Shape := ⟨2, ![8, 128]⟩
abbrev S0x0 : Shape := ⟨2, ![0, 0]⟩
abbrev S0x4096x1024 : Shape := ⟨3, ![0, 4096, 1024]⟩

abbrev nBuf : Space → Nat
  | .hbm => 6
  | .vmem => 2
  | .smem => 0
  | _ => 0

abbrev bufTy : (tb : Table) → Fin (tcTables nBuf tb) → BufTy
  | .hbm, ⟨0, _⟩ => ⟨S4x4096x1024, .f32⟩
  | .hbm, ⟨1, _⟩ => ⟨S1x8x128, .f32⟩
  | .hbm, ⟨2, _⟩ => ⟨S8x128, .f32⟩
  | .hbm, ⟨3, _⟩ => ⟨S8x128, .f32⟩
  | .hbm, ⟨4, _⟩ => ⟨S0x0, .f32⟩
  | .hbm, ⟨5, _⟩ => ⟨S0x4096x1024, .f32⟩
  | .local _ .vmem, ⟨0, _⟩ => ⟨S8x128, .f32⟩
  | .local _ .vmem, ⟨1, _⟩ => ⟨S8x128, .f32⟩
  | _, _ => ⟨S4x4096x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S4x4096x1024 : Shape := ⟨3, ![4, 4096, 1024]⟩
abbrev S0 : Shape := ⟨1, ![0]⟩
abbrev S_ : Shape := ⟨0, ![]⟩
abbrev S0x4096x1024 : Shape := ⟨3, ![0, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S0, .i32⟩
  | .hbm, ⟨2, _⟩ => ⟨S_, .i32⟩
  | .hbm, ⟨3, _⟩ => ⟨S0, .i32⟩
  | .hbm, ⟨4, _⟩ => ⟨S0, .i1⟩
  | .hbm, ⟨5, _⟩ => ⟨S_, .i32⟩
  | .hbm, ⟨6, _⟩ => ⟨S0, .i32⟩
  | .hbm, ⟨7, _⟩ => ⟨S0, .i32⟩
  | .hbm, ⟨8, _⟩ => ⟨S_, .f32⟩
  | .hbm, ⟨9, _⟩ => ⟨S0x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_cst : Ref sig .tc := ⟨.hbm, 8, rfl⟩
abbrev main_v1 : Ref sig .tc := ⟨.hbm, 9, rfl⟩

abbrev nD : Nat := 1
abbrev τ : Topo := Topo.v7x

variable {F : FTy → Type} [FloatOps F]
-- ==== Tile.lean ====
abbrev S4x4096x1024 : Shape := ⟨3, ![4, 4096, 1024]⟩
abbrev S1x8x128 : Shape := ⟨3, ![1, 8, 128]⟩
abbrev S8x128 : Shape := ⟨2, ![8, 128]⟩

abbrev nBuf : Space → Nat
  | .hbm => 4
  | .vmem => 2
  | .smem => 0
  | _ => 0

abbrev bufTy : (tb : Table) → Fin (tcTables nBuf tb) → BufTy
  | .hbm, ⟨0, _⟩ => ⟨S4x4096x1024, .f32⟩
  | .hbm, ⟨1, _⟩ => ⟨S1x8x128, .f32⟩
  | .hbm, ⟨2, _⟩ => ⟨S8x128, .f32⟩
  | .hbm, ⟨3, _⟩ => ⟨S8x128, .f32⟩
  | .local _ .vmem, ⟨0, _⟩ => ⟨S8x128, .f32⟩
  | .local _ .vmem, ⟨1, _⟩ => ⟨S8x128, .f32⟩
  | _, _ => ⟨S4x4096x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== TileReference.lean ====
abbrev S4x4096x1024 : Shape := ⟨3, ![4, 4096, 1024]⟩
abbrev S1x8x128 : Shape := ⟨3, ![1, 8, 128]⟩
abbrev S8x128 : Shape := ⟨2, ![8, 128]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x8x128, .f32⟩
  | .hbm, ⟨2, _⟩ => ⟨S8x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Corner.lean ====
/- The corner `x[0, :8, :128]` of an array of shape [4, 4096, 1024], as a function of an index, and the host's way of
   cutting it out. -/
module

public import Idealize.ShloMosaic.Lib.Pipeline.Value
public import Idealize.ShloMosaic.Lib.ValueLayout

@[expose] public section

namespace Cert.Proof.Corner

open Idealize.ShloMosaic

variable {α : Type}

/-- The corner of `x`: its element at row `i`, lane `j` is `x[0, i, j]`. -/
def corner (x : (⟨3, ![4, 4096, 1024]⟩ : Shape).Idx → α) : (⟨2, ![8, 128]⟩ : Shape).Idx → α :=
  fun y => x fun a => match a with
    | ⟨0, _⟩ => (⟨0, by decide⟩ : Fin 4)
    | ⟨1, _⟩ => (⟨(y 0).val, (y 0).isLt.trans (by decide)⟩ : Fin 4096)
    | ⟨2, _⟩ => (⟨(y 1).val, (y 1).isLt.trans (by decide)⟩ : Fin 1024)

/-- Slicing [1, 8, 128] off the origin and dropping the unit axis gives the corner. -/
theorem slice_reshape_eq_corner (x : (⟨3, ![4, 4096, 1024]⟩ : Shape).Idx → α)
    (hs : (⟨3, ![4, 4096, 1024]⟩ : Shape).Slices ![0, 0, 0] ⟨3, ![1, 8, 128]⟩)
    (hc : (⟨3, ![1, 8, 128]⟩ : Shape).ShapeCasts ⟨2, ![8, 128]⟩) :
    shapeCast ⟨2, ![8, 128]⟩ (extractStridedSlice ⟨3, ![1, 8, 128]⟩ ![0, 0, 0] x hs) hc = corner x := by
  funext y
  obtain ⟨i, j, rfl⟩ : ∃ (i : Fin 8) (j : Fin 128), y = ValueIdx.ix2 i j := ⟨y 0, y 1, ValueIdx.eq_ix2 y⟩
  refine (ValueIdx.shapeCast_1ab_ab_apply _ hc i j).trans ?_
  exact extractStridedSlice_apply _ x hs _ _ fun a => match a with
    | ⟨0, _⟩ => rfl
    | ⟨1, _⟩ => (Nat.zero_add _).symm
    | ⟨2, _⟩ => (Nat.zero_add _).symm

/-- The array with no element along its first axis. -/
def noRows {b c : Nat} : (⟨3, ![0, b, c]⟩ : Shape).Idx → α := fun i => absurd (i 0).isLt (Nat.not_lt_zero _)

/-- Two arrays with no element along their first axis are equal. -/
theorem eq_of_no_rows {b c : Nat} (x y : (⟨3, ![0, b, c]⟩ : Shape).Idx → α) : x = y :=
  funext fun i => absurd (i 0).isLt (Nat.not_lt_zero _)

end Cert.Proof.Corner

end
-- ==== Proof.TileIdealValue.lean ====
/- What the launch of `TileIdeal` leaves in its result array: the corner of the argument. -/
module

public import proofs.«01_k».proof.Proof.Gen.TileIdeal.Value
public import proofs.«01_k».proof.Proof.Corner

@[expose] public section

noncomputable section

namespace Cert.TileIdeal.Copied

open Cert.TileIdeal Cert.TileIdeal.Gen Cert.Proof.Corner Idealize.ShloMosaic Idealize.ShloMosaic.TcCoe Idealize.SL.Sem

variable {F : FTy → Type} [FloatOps F]
variable (m : (ℓ : Loc nD τ sig) → Buf (Elt F) ℓ) (ρ : Dev nD → PrngReg)

/-- The kernel's operand, when its region is entered, is the corner of the argument: the host sliced and reshaped it. -/
theorem operand_eq (c : Dev nD) : V m c main_v1 = corner (m ((c : Thread nD τ).loc main_arg0)) := by
  entry_read
  exact slice_reshape_eq_corner _ _ _

theorem zero_offsets : (![0, 0] : Fin 2 → Nat) = fun _ => 0 := funext fun a => match a with | ⟨0, _⟩ => rfl | ⟨1, _⟩ => rfl

/-- The body leaves in its output buffer exactly what it loaded. -/
theorem out_eq (x : Vec F S8x128 .f32) : out0_1 x = x := by
  unfold out0_1
  rw [View.canon_unit_zero zero_offsets, View.ld_unit_zero zero_offsets]
  exact shapeCast_self x _

/-- What is written back at a point is that point's block of the corner. -/
theorem flushed_eq (c : Dev nD) (t : Fin cfg0.N) :
    (dats m 0 c).flushed 1 t = ((cfg0.win 1).blk t).view.read (Elt F) (corner (m ((c : Thread nD τ).loc main_arg0))) := by
  rw [Value.flushed1, out_eq, ← operand_eq m c]
  rfl

/-- The one block is the whole array. -/
theorem cover (i : S8x128.Idx) :
    ∃ t : Fin cfg0.N, (cfg0.win 1).flush t = true ∧ i ∈ ((cfg0.win 1).blk t).view.set := by
  have t : Fin cfg0.N := ⟨0, by decide⟩
  refine ⟨t, flush0_1 t, ?_⟩
  show i ∈ ((View.whole main_v2).slice (win0_1.rect t)).set
  rw [View.set_slice_whole, Rect.mem_set_unit]
  intro a
  show 0 * S8x128.size a ≤ (i a).val ∧ (i a).val < 0 * S8x128.size a + S8x128.size a
  have h : (i a).val < S8x128.size a := (i a).isLt
  omega

/-- The result array ends holding the corner. -/
theorem final_eq (c : Dev nD) : (dats m 0 c).arrAt 1 cfg0.N = corner (m ((c : Thread nD τ).loc main_arg0)) :=
  (dats m 0 c).arrAt_eq_of_cover 1 _ (fun t _ => flushed_eq m c t) cover

/-- The run: it terminates with the result array at the corner of the argument, and the argument unchanged. -/
theorem run : θ_run defs (onTc (τ := τ) (main (F := F))) ⟨m, fun _ => 0, ρ⟩ fun r => ∀ c : Dev nD,
      r.2.mem ((c : Thread nD τ).loc main_v2) = corner (m ((c : Thread nD τ).loc main_arg0))
      ∧ r.2.mem ((c : Thread nD τ).loc main_arg0) = m ((c : Thread nD τ).loc main_arg0) :=
  (θ_run defs _ _).mono (fun _ h c => ⟨(h c).1.trans (final_eq m c), (h c).2⟩) (Value.run_blocks m ρ)

end Cert.TileIdeal.Copied

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Reference.Run
public import proofs.«01_k».proof.Proof.Gen.ReferenceIdeal.Run
public import proofs.«01_k».proof.Proof.Gen.TileReference.Run
public import proofs.«01_k».proof.Proof.Gen.TileReferenceIdeal.Run
public import proofs.«01_k».proof.Proof.TileValue
public import proofs.«01_k».proof.Proof.TileIdealValue
public import Idealize.ShloMosaic.Lib.Quiescent

@[expose] public section

noncomputable section

namespace Cert.Proof

open Idealize.ShloMosaic Idealize.SL.Sem Cert.Proof.Corner

/-! ## The references' frames: host programs without semaphores -/

theorem frame_reference : Cert.quiescent_Reference := fun m g _ =>
  (θ_run Cert.Reference.defs _ _).mono (fun r h => ⟨fun c => (h c).2, sem_eq_zero_of_no_sems (by decide) r.2⟩)
    (Cert.Reference.Value.run m g)

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_tileReference : Cert.quiescent_TileReference := fun m g _ =>
  (θ_run Cert.TileReference.defs _ _).mono (fun r h => ⟨fun c => (h c).2, sem_eq_zero_of_no_sems (by decide) r.2⟩)
    (Cert.TileReference.Value.run m g)

theorem frame_tileReferenceIdeal : Cert.quiescent_TileReferenceIdeal := fun m g _ =>
  (θ_run Cert.TileReferenceIdeal.defs _ _).mono (fun r h => ⟨fun c => (h c).2, sem_eq_zero_of_no_sems (by decide) r.2⟩)
    (Cert.TileReferenceIdeal.Value.run m g)

/-! ## The whole kernel: its result has shape [0, 4096, 1024] -/

/-- Over the extended reals kernel and reference both run, and their results, which have no element, are equal. -/
theorem algebraic : Cert.algebraic_KernelIdeal_ReferenceIdeal := by
  intro m g m' g' _ _
  refine ⟨fun _ => noRows, ?_, (θ_run Cert.ReferenceIdeal.defs _ _).mono (fun r h c => ⟨eq_of_no_rows _ _, (h c).2⟩)
    (Cert.ReferenceIdeal.Value.run m' g')⟩
  exact (θ_run Cert.KernelIdeal.defs _ _).mono (fun r h c => ⟨eq_of_no_rows _ _, h c⟩)
    (Cert.KernelIdeal.Gen.unchanged m g)

/-- The same on words. -/
theorem bitexact : Cert.bitexact_Kernel_Reference := by
  intro m g m' g' _ _
  refine ⟨fun _ => noRows, ?_, (θ_run Cert.Reference.defs _ _).mono (fun r h c => ⟨eq_of_no_rows _ _, (h c).2⟩)
    (Cert.Reference.Value.run m' g')⟩
  exact (θ_run Cert.Kernel.defs _ _).mono (fun r h c => ⟨eq_of_no_rows _ _, h c⟩) (Cert.Kernel.Gen.unchanged m g)

/-! ## The call by itself: its tile is the corner of the argument -/

/-- Over the extended reals the call's tile and the reference's are both the corner. -/
theorem algebraic_tile : Cert.algebraic_TileIdeal_TileReferenceIdeal := by
  intro m g m' g' _ hagree
  refine ⟨fun c => corner (m ((c.tc : Thread Cert.TileIdeal.nD Cert.TileIdeal.τ).loc Cert.TileIdeal.main_arg0)),
    Cert.TileIdeal.Copied.run m g, ?_⟩
  refine (θ_run Cert.TileReferenceIdeal.defs _ _).mono (fun r h c => ⟨(h c).1.trans ?_, (h c).2⟩)
    (Cert.TileReferenceIdeal.Value.run m' g')
  rw [hagree c]
  exact slice_reshape_eq_corner _ _ _

/-- The same word for word. -/
theorem bitexact_tile : Cert.bitexact_Tile_TileReference := by
  intro m g m' g' _ hagree
  refine ⟨fun c => corner (m ((c.tc : Thread Cert.Tile.nD Cert.Tile.τ).loc Cert.Tile.main_arg0)),
    Cert.Tile.Copied.run m g, ?_⟩
  refine (θ_run Cert.TileReference.defs _ _).mono (fun r h c => ⟨(h c).1.trans ?_, (h c).2⟩)
    (Cert.TileReference.Value.run m' g')
  rw [hagree c]
  exact slice_reshape_eq_corner _ _ _

/-- Every claim of the certificate. -/
theorem claim : Cert.Claim := ⟨Cert.Kernel.Gen.facts, Cert.KernelIdeal.Gen.facts, Cert.ReferenceIdeal.Gen.facts,
  Cert.Reference.Gen.facts, Cert.Tile.Gen.facts, Cert.TileIdeal.Gen.facts, Cert.TileReferenceIdeal.Gen.facts,
  Cert.TileReference.Gen.facts,
  fun m g _ => Cert.Kernel.Gen.frame m g, fun m g _ => Cert.KernelIdeal.Gen.frame m g, frame_referenceIdeal,
  frame_reference, fun m g _ => Cert.Tile.Gen.frame m g, fun m g _ => Cert.TileIdeal.Gen.frame m g,
  frame_tileReferenceIdeal, frame_tileReference,
  trivial, algebraic, bitexact, trivial, algebraic_tile, bitexact_tile⟩

end Cert.Proof

end
